-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x192x32x32 : Shape := ⟨5, ![2, 128, 192, 32, 32]⟩
abbrev S2048x3072 : Shape := ⟨2, ![2048, 3072]⟩
abbrev S16x1024 : Shape := ⟨2, ![16, 1024]⟩
abbrev S2x192x32x32x128 : Shape := ⟨5, ![2, 192, 32, 32, 128]⟩
abbrev S128x384 : Shape := ⟨2, ![128, 384]⟩
abbrev S1x24x32x32x128 : Shape := ⟨5, ![1, 24, 32, 32, 128]⟩
abbrev S384x128 : Shape := ⟨2, ![384, 128]⟩
abbrev S16x128 : Shape := ⟨2, ![16, 128]⟩
abbrev S1024x128 : Shape := ⟨2, ![1024, 128]⟩
abbrev S1x1x32x32x128 : Shape := ⟨5, ![1, 1, 32, 32, 128]⟩
abbrev S32x32x128 : Shape := ⟨3, ![32, 32, 128]⟩

abbrev nBuf : Space → Nat
  | .hbm => 6
  | .vmem => 7
  | .smem => 0
  | _ => 0

abbrev bufTy : (tb : Table) → Fin (tcTables nBuf tb) → BufTy
  | .hbm, ⟨0, _⟩ => ⟨S2x128x192x32x32, .f32⟩
  | .hbm, ⟨1, _⟩ => ⟨S2048x3072, .f32⟩
  | .hbm, ⟨2, _⟩ => ⟨S16x1024, .f32⟩
  | .hbm, ⟨3, _⟩ => ⟨S2x192x32x32x128, .f32⟩
  | .hbm, ⟨4, _⟩ => ⟨S2x192x32x32x128, .f32⟩
  | .hbm, ⟨5, _⟩ => ⟨S2x128x192x32x32, .f32⟩
  | .local _ .vmem, ⟨0, _⟩ => ⟨S128x384, .f32⟩
  | .local _ .vmem, ⟨1, _⟩ => ⟨S128x384, .f32⟩
  | .local _ .vmem, ⟨2, _⟩ => ⟨S16x1024, .f32⟩
  | .local _ .vmem, ⟨3, _⟩ => ⟨S1x24x32x32x128, .f32⟩
  | .local _ .vmem, ⟨4, _⟩ => ⟨S1x24x32x32x128, .f32⟩
  | .local _ .vmem, ⟨5, _⟩ => ⟨S1x24x32x32x128, .f32⟩
  | .local _ .vmem, ⟨6, _⟩ => ⟨S1x24x32x32x128, .f32⟩
  | _, _ => ⟨S2x128x192x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x24x32x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x32x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x128x192x32x32 : Shape := ⟨5, ![2, 128, 192, 32, 32]⟩
abbrev S2048x3072 : Shape := ⟨2, ![2048, 3072]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x3072 : Shape := ⟨2, ![128, 3072]⟩
abbrev S128x192x4x4 : Shape := ⟨4, ![128, 192, 4, 4]⟩
abbrev S32 : Shape := ⟨1, ![32]⟩
abbrev S4 : Shape := ⟨1, ![4]⟩
abbrev S1x32 : Shape := ⟨2, ![1, 32]⟩
abbrev S4x1 : Shape := ⟨2, ![4, 1]⟩
abbrev S4x32 : Shape := ⟨2, ![4, 32]⟩
abbrev S32x128x192x4 : Shape := ⟨4, ![32, 128, 192, 4]⟩
abbrev S32x128x192x32 : Shape := ⟨4, ![32, 128, 192, 32]⟩
abbrev S128x192x32x32 : Shape := ⟨4, ![128, 192, 32, 32]⟩
abbrev S1x128x192x32x32 : Shape := ⟨5, ![1, 128, 192, 32, 32]⟩

abbrev nBuf : Space → Nat
  | .hbm => 161
  | .vmem => 0
  | .smem => 0
  | _ => 0

abbrev hbmTy0_0 (i : Nat) : BufTy := match i % 128 with
  | 0 => ⟨S2x128x192x32x32, .f32⟩
  | 1 => ⟨S2048x3072, .f32⟩
  | 2 => ⟨S128, .i32⟩
  | 3 => ⟨S_, .i32⟩
  | 4 => ⟨S128, .i32⟩
  | 5 => ⟨S128, .i1⟩
  | 6 => ⟨S_, .i32⟩
  | 7 => ⟨S128, .i32⟩
  | 8 => ⟨S128, .i32⟩
  | 9 => ⟨S128, .i32⟩
  | 10 => ⟨S128x1, .i32⟩
  | 11 => ⟨S1, .i32⟩
  | 12 => ⟨S_, .i32⟩
  | 13 => ⟨S128x1, .i32⟩
  | 14 => ⟨S128x1, .i1⟩
  | 15 => ⟨S1x1, .i32⟩
  | 16 => ⟨S128x1, .i32⟩
  | 17 => ⟨S128x1, .i1⟩
  | 18 => ⟨S128x1, .i1⟩
  | 19 => ⟨S_, .i1⟩
  | 20 => ⟨S128, .i1⟩
  | 21 => ⟨S128x3072, .f32⟩
  | 22 => ⟨S128x3072, .i1⟩
  | 23 => ⟨S_, .f32⟩
  | 24 => ⟨S128x3072, .f32⟩
  | 25 => ⟨S128x3072, .f32⟩
  | 26 => ⟨S128x192x4x4, .f32⟩
  | 27 => ⟨S_, .f32⟩
  | 28 => ⟨S_, .f32⟩
  | 29 => ⟨S_, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S4, .f32⟩
  | 44 => ⟨S1x32, .f32⟩
  | 45 => ⟨S4x1, .f32⟩
  | 46 => ⟨S4x32, .f32⟩
  | 47 => ⟨S4x32, .f32⟩
  | 48 => ⟨S4x32, .f32⟩
  | 49 => ⟨S4x32, .f32⟩
  | 50 => ⟨S_, .f32⟩
  | 51 => ⟨S4x32, .f32⟩
  | 52 => ⟨S4x32, .f32⟩
  | 53 => ⟨S4x32, .f32⟩
  | 54 => ⟨S_, .f32⟩
  | 55 => ⟨S4x32, .f32⟩
  | 56 => ⟨S4x32, .f32⟩
  | 57 => ⟨S_, .f32⟩
  | 58 => ⟨S4x32, .f32⟩
  | 59 => ⟨S4x32, .f32⟩
  | 60 => ⟨S_, .f32⟩
  | 61 => ⟨S32, .f32⟩
  | 62 => ⟨S1x32, .f32⟩
  | 63 => ⟨S1x32, .f32⟩
  | 64 => ⟨S_, .f32⟩
  | 65 => ⟨S1x32, .f32⟩
  | 66 => ⟨S1x32, .i1⟩
  | 67 => ⟨S_, .f32⟩
  | 68 => ⟨S1x32, .f32⟩
  | 69 => ⟨S1x32, .i1⟩
  | 70 => ⟨S_, .f32⟩
  | 71 => ⟨S1x32, .f32⟩
  | 72 => ⟨S1x32, .f32⟩
  | 73 => ⟨S4x32, .f32⟩
  | 74 => ⟨S4x32, .f32⟩
  | 75 => ⟨S4x32, .i1⟩
  | 76 => ⟨S_, .f32⟩
  | 77 => ⟨S4x32, .f32⟩
  | 78 => ⟨S4x32, .f32⟩
  | 79 => ⟨S_, .f32⟩
  | 80 => ⟨S32, .f32⟩
  | 81 => ⟨S32, .i1⟩
  | 82 => ⟨S_, .f32⟩
  | 83 => ⟨S32, .f32⟩
  | 84 => ⟨S32, .i1⟩
  | 85 => ⟨S32, .i1⟩
  | 86 => ⟨S1x32, .i1⟩
  | 87 => ⟨S4x32, .i1⟩
  | 88 => ⟨S_, .f32⟩
  | 89 => ⟨S4x32, .f32⟩
  | 90 => ⟨S4x32, .f32⟩
  | 91 => ⟨S_, .f32⟩
  | 92 => ⟨S_, .f32⟩
  | 93 => ⟨S_, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S4, .f32⟩
  | 108 => ⟨S1x32, .f32⟩
  | 109 => ⟨S4x1, .f32⟩
  | 110 => ⟨S4x32, .f32⟩
  | 111 => ⟨S4x32, .f32⟩
  | 112 => ⟨S4x32, .f32⟩
  | 113 => ⟨S4x32, .f32⟩
  | 114 => ⟨S_, .f32⟩
  | 115 => ⟨S4x32, .f32⟩
  | 116 => ⟨S4x32, .f32⟩
  | 117 => ⟨S4x32, .f32⟩
  | 118 => ⟨S_, .f32⟩
  | 119 => ⟨S4x32, .f32⟩
  | 120 => ⟨S4x32, .f32⟩
  | 121 => ⟨S_, .f32⟩
  | 122 => ⟨S4x32, .f32⟩
  | 123 => ⟨S4x32, .f32⟩
  | 124 => ⟨S_, .f32⟩
  | 125 => ⟨S32, .f32⟩
  | 126 => ⟨S1x32, .f32⟩
  | 127 => ⟨S1x32, .f32⟩
  | _ => ⟨S2x128x192x32x32, .f32⟩

abbrev hbmTy0_1 (i : Nat) : BufTy := match i % 128 with
  | 0 => ⟨S_, .f32⟩
  | 1 => ⟨S1x32, .f32⟩
  | 2 => ⟨S1x32, .i1⟩
  | 3 => ⟨S_, .f32⟩
  | 4 => ⟨S1x32, .f32⟩
  | 5 => ⟨S1x32, .i1⟩
  | 6 => ⟨S_, .f32⟩
  | 7 => ⟨S1x32, .f32⟩
  | 8 => ⟨S1x32, .f32⟩
  | 9 => ⟨S4x32, .f32⟩
  | 10 => ⟨S4x32, .f32⟩
  | 11 => ⟨S4x32, .i1⟩
  | 12 => ⟨S_, .f32⟩
  | 13 => ⟨S4x32, .f32⟩
  | 14 => ⟨S4x32, .f32⟩
  | 15 => ⟨S_, .f32⟩
  | 16 => ⟨S32, .f32⟩
  | 17 => ⟨S32, .i1⟩
  | 18 => ⟨S_, .f32⟩
  | 19 => ⟨S32, .f32⟩
  | 20 => ⟨S32, .i1⟩
  | 21 => ⟨S32, .i1⟩
  | 22 => ⟨S1x32, .i1⟩
  | 23 => ⟨S4x32, .i1⟩
  | 24 => ⟨S_, .f32⟩
  | 25 => ⟨S4x32, .f32⟩
  | 26 => ⟨S4x32, .f32⟩
  | 27 => ⟨S32x128x192x4, .f32⟩
  | 28 => ⟨S32x128x192x32, .f32⟩
  | 29 => ⟨S128x192x32x32, .f32⟩
  | 30 => ⟨S1x128x192x32x32, .f32⟩
  | 31 => ⟨S2x128x192x32x32, .f32⟩
  | 32 => ⟨S2x128x192x32x32, .f32⟩
  | _ => ⟨S2x128x192x32x32, .f32⟩

abbrev hbmTy (i : Nat) : BufTy := match i / 128 with
  | 0 => hbmTy0_0 i
  | 1 => hbmTy0_1 i
  | _ => ⟨S2x128x192x32x32, .f32⟩

abbrev bufTy : (tb : Table) → Fin (tcTables nBuf tb) → BufTy
  | .hbm, ⟨i, _⟩ => hbmTy i
  | _, _ => ⟨S2x128x192x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_cst_0 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_cst_2 : Ref sig .tc := ⟨.hbm, 34, rfl⟩
abbrev main_v7 : Ref sig .tc := ⟨.hbm, 35, rfl⟩
abbrev main_v8 : Ref sig .tc := ⟨.hbm, 36, rfl⟩
abbrev main_cst_3 : Ref sig .tc := ⟨.hbm, 37, rfl⟩
abbrev main_v9 : Ref sig .tc := ⟨.hbm, 38, rfl⟩
abbrev main_v10 : Ref sig .tc := ⟨.hbm, 39, rfl⟩
abbrev main_cst_4 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_5 : Ref sig .tc := ⟨.hbm, 54, rfl⟩
abbrev main_v24 : Ref sig .tc := ⟨.hbm, 55, rfl⟩
abbrev main_v25 : Ref sig .tc := ⟨.hbm, 56, rfl⟩
abbrev main_cst_6 : Ref sig .tc := ⟨.hbm, 57, rfl⟩
abbrev main_v26 : Ref sig .tc := ⟨.hbm, 58, rfl⟩
abbrev main_v27 : Ref sig .tc := ⟨.hbm, 59, rfl⟩
abbrev main_cst_7 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_8 : Ref sig .tc := ⟨.hbm, 64, rfl⟩
abbrev main_v31 : Ref sig .tc := ⟨.hbm, 65, rfl⟩
abbrev main_v32 : Ref sig .tc := ⟨.hbm, 66, rfl⟩
abbrev main_cst_9 : Ref sig .tc := ⟨.hbm, 67, rfl⟩
abbrev main_v33 : Ref sig .tc := ⟨.hbm, 68, rfl⟩
abbrev main_v34 : Ref sig .tc := ⟨.hbm, 69, rfl⟩
abbrev main_cst_10 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_11 : Ref sig .tc := ⟨.hbm, 76, rfl⟩
abbrev main_v40 : Ref sig .tc := ⟨.hbm, 77, rfl⟩
abbrev main_v41 : Ref sig .tc := ⟨.hbm, 78, rfl⟩
abbrev main_cst_12 : Ref sig .tc := ⟨.hbm, 79, rfl⟩
abbrev main_v42 : Ref sig .tc := ⟨.hbm, 80, rfl⟩
abbrev main_v43 : Ref sig .tc := ⟨.hbm, 81, rfl⟩
abbrev main_cst_13 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_14 : Ref sig .tc := ⟨.hbm, 88, rfl⟩
abbrev main_v49 : Ref sig .tc := ⟨.hbm, 89, rfl⟩
abbrev main_v50 : Ref sig .tc := ⟨.hbm, 90, rfl⟩
abbrev main_cst_15 : Ref sig .tc := ⟨.hbm, 91, rfl⟩
abbrev main_cst_16 : Ref sig .tc := ⟨.hbm, 92, rfl⟩
abbrev main_v51 : Ref sig .tc := ⟨.hbm, 93, rfl⟩
abbrev main_v52 : Ref sig .tc := ⟨.hbm, 94, rfl⟩
abbrev main_cst_17 : Ref sig .tc := ⟨.hbm, 95, rfl⟩
abbrev main_v53 : Ref sig .tc := ⟨.hbm, 96, rfl⟩
abbrev main_v54 : Ref sig .tc := ⟨.hbm, 97, rfl⟩
abbrev main_cst_18 : Ref sig .tc := ⟨.hbm, 98, rfl⟩
abbrev main_v55 : Ref sig .tc := ⟨.hbm, 99, rfl⟩
abbrev main_v56 : Ref sig .tc := ⟨.hbm, 100, rfl⟩
abbrev main_cst_19 : Ref sig .tc := ⟨.hbm, 101, rfl⟩
abbrev main_v57 : Ref sig .tc := ⟨.hbm, 102, rfl⟩
abbrev main_v58 : Ref sig .tc := ⟨.hbm, 103, rfl⟩
abbrev main_cst_20 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_21 : Ref sig .tc := ⟨.hbm, 118, rfl⟩
abbrev main_v72 : Ref sig .tc := ⟨.hbm, 119, rfl⟩
abbrev main_v73 : Ref sig .tc := ⟨.hbm, 120, rfl⟩
abbrev main_cst_22 : Ref sig .tc := ⟨.hbm, 121, rfl⟩
abbrev main_v74 : Ref sig .tc := ⟨.hbm, 122, rfl⟩
abbrev main_v75 : Ref sig .tc := ⟨.hbm, 123, rfl⟩
abbrev main_cst_23 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_24 : Ref sig .tc := ⟨.hbm, 128, rfl⟩
abbrev main_v79 : Ref sig .tc := ⟨.hbm, 129, rfl⟩
abbrev main_v80 : Ref sig .tc := ⟨.hbm, 130, rfl⟩
abbrev main_cst_25 : Ref sig .tc := ⟨.hbm, 131, rfl⟩
abbrev main_v81 : Ref sig .tc := ⟨.hbm, 132, rfl⟩
abbrev main_v82 : Ref sig .tc := ⟨.hbm, 133, rfl⟩
abbrev main_cst_26 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_27 : Ref sig .tc := ⟨.hbm, 140, rfl⟩
abbrev main_v88 : Ref sig .tc := ⟨.hbm, 141, rfl⟩
abbrev main_v89 : Ref sig .tc := ⟨.hbm, 142, rfl⟩
abbrev main_cst_28 : Ref sig .tc := ⟨.hbm, 143, rfl⟩
abbrev main_v90 : Ref sig .tc := ⟨.hbm, 144, rfl⟩
abbrev main_v91 : Ref sig .tc := ⟨.hbm, 145, rfl⟩
abbrev main_cst_29 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_30 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩

abbrev nD : Nat := 1
abbrev τ : Topo := Topo.v7x

variable {F : FTy → Type} [FloatOps F]
-- ==== Proof.Block.lean ====
/- What one run of the kernel's body leaves in the output block, element by element. -/
module

public import proofs.«01_k».proof.Proof.Gen.KernelIdeal.Frame
public import Idealize.ShloMosaic.Lib.Pipeline.ValueKit

@[expose] public section

set_option maxRecDepth 16384

noncomputable section

namespace Cert.KernelIdeal.BlockValue

open Idealize.ShloMosaic Idealize.ShloMosaic.TcCoe Cert.KernelIdeal Cert.KernelIdeal.Gen

/-- One element of the output block from the three input blocks: the same element of the feature block, plus the sum
    over the 16 coarse cells of table entry times embedding entry. -/
def elt (x0 : Vec Ideal S128x384 .f32) (x1 : Vec Ideal S16x1024 .f32) (x2 : Vec Ideal S1x24x32x32x128 .f32)
    (c : Fin 24) (y x : Fin 32) (s : Fin 128) : EReal :=
  (x2 (ix5 0 c y x s) : EReal) + ∑ k : Fin 16, (x1 (ix2 k ⟨y.val * 32 + x.val, by omega⟩) : EReal)
    * (x0 (ix2 s ⟨c.val * 16 + k.val, by omega⟩) : EReal)

/-- The output block after the body is `elt` of the input blocks at every index. -/
theorem out_at (x0 : Vec Ideal S128x384 .f32) (x1 : Vec Ideal S16x1024 .f32) (x2 : Vec Ideal S1x24x32x32x128 .f32)
    (y : S1x24x32x32x128.Idx) :
    out0_3 (F := Ideal) x0 x1 x2 y = elt x0 x1 x2 (y 1) (y 2) (y 3) (y 4) := by
  unfold_out out0_3
  canon_tiles z h
  all_goals (open_payloads; pointwise [elt]; blk_point [])

end Cert.KernelIdeal.BlockValue

end
-- ==== Proof.Weights.lean ====
/- The interpolation weights, as whole numbers of sixteenths, and when a single-precision word denotes a number of 256ths. -/
module

public import Idealize.ShloMosaic.Lib.Pipeline.ValueKit
public import Idealize.ShloMosaic.PureOps.Ideal

@[expose] public section

set_option maxRecDepth 16384

noncomputable section

namespace Cert.Bilinear

open Idealize.ShloMosaic

/-- The bilinear weight of coarse cell `i` (of 4) in fine cell `y` (of 32), in sixteenths. In the interior it is the
    tent `16 - |(2y + 1) - (8 + 16i)|` cut off at zero; within half a coarse cell of either border the outermost
    coarse cell takes the whole weight. -/
def wnum (i y : ℕ) : ℕ :=
  if y < 4 then (if i = 0 then 16 else 0)
  else if 28 ≤ y then (if i = 3 then 16 else 0)
  else 16 - ((2 * y + 1) - (8 + 16 * i)) - ((8 + 16 * i) - (2 * y + 1))

/-- The weight itself, as an extended real. -/
def wt (i y : ℕ) : EReal := (((wnum i y : ℝ) / 16 : ℝ) : EReal)

/-- A weight is not negative. -/
theorem wt_nonneg (i y : ℕ) : 0 ≤ wt i y := by
  unfold wt
  exact EReal.coe_nonneg.mpr (by positivity)

/-- A weight is not infinite. -/
theorem wt_ne_top (i y : ℕ) : wt i y ≠ ⊤ := EReal.coe_ne_top _

/-- The single-precision word `b` spells the number `n / 256`, told from its sign, exponent and fraction fields: either
    all three are zero and so is `n`, or the sign is plus and the significand times its power of two is `n / 256`. -/
def spells (b : BitVec 32) (n : ℕ) : Bool :=
  !(b.extractLsb' 31 1 == 1#1) &&
    ((decide ((b.extractLsb' 23 8).toNat = 0) && decide ((b.extractLsb' 0 23).toNat = 0) && decide (n = 0))
      || (decide ((b.extractLsb' 23 8).toNat ≠ 0) && decide ((b.extractLsb' 23 8).toNat ≤ 150) &&
          decide ((2 ^ 23 + (b.extractLsb' 0 23).toNat) * 256 = n * 2 ^ (150 - (b.extractLsb' 23 8).toNat))))

/-- A word that spells `n / 256` denotes `n / 256`. -/
theorem ofBits_of_spells (b : BitVec 32) (n : ℕ) (h : spells b n = true) :
    (FloatOps.ofBits .f32 b : Ideal .f32) = (((n : ℝ) / 256 : ℝ) : EReal) := by
  show Ideal.ieee 8 23 b = _
  unfold Ideal.ieee
  simp only [spells, Bool.and_eq_true, Bool.or_eq_true, Bool.not_eq_true', decide_eq_true_eq] at h
  obtain ⟨hs, h⟩ := h
  simp only [Nat.reduceAdd]
  generalize hex : (b.extractLsb' 23 8).toNat = ex at *
  generalize hfr : (b.extractLsb' 0 23).toNat = fr at *
  rw [hs]
  rcases h with ⟨⟨rfl, rfl⟩, rfl⟩ | ⟨⟨h0, h1⟩, h2⟩
  · simp
  · rw [if_neg (by omega), if_neg h0]
    congr 1
    have h3 : ((2 : ℝ) ^ 23 + fr) * 256 = n * 2 ^ (150 - ex) := by exact_mod_cast h2
    have h4 : (2 : ℝ) ^ ((ex : ℤ) - (2 ^ (8 - 1) - 1) - ((23 : ℕ) : ℤ)) = ((2 : ℝ) ^ (150 - ex))⁻¹ := by
      rw [← zpow_natCast, ← zpow_neg]
      congr 1
      push_cast [Nat.cast_sub h1]
      ring
    rw [h4]
    push_cast
    have h5 : (2 : ℝ) ^ (150 - ex) ≠ 0 := by positivity
    field_simp
    linarith

end Cert.Bilinear

end
-- ==== Proof.Table.lean ====
/- The kernel's constant table holds the products of the interpolation weights. -/
module

public import proofs.«01_k».proof.Proof.Weights
public import proofs.«01_k».proof.Proof.Gen.KernelIdeal

@[expose] public section

set_option maxRecDepth 16384

noncomputable section

namespace Cert.Bilinear

open Idealize.ShloMosaic

/-- Row `k`, column `p` of the kernel's 16 by 1024 table spells the product of the two weights that row and column
    stand for, for every row and column. -/
theorem table_spells : ∀ (k : Fin 16) (p : Fin 1024),
    spells (Cert.KernelIdeal.lit0 ⟨k.val * 1024 + p.val, by omega⟩)
      (wnum (k.val / 4) (p.val / 32) * wnum (k.val % 4) (p.val % 32)) = true := by
  decide +kernel

/-- The kernel's table at row `k`, column `p` is the weight of `k / 4` in `p / 32` times that of `k % 4` in
    `p % 32`. -/
theorem table_at (i : Fin 16384) (k p : ℕ) (hk : k < 16) (hp : p < 1024) (hi : i.val = k * 1024 + p) :
    (FloatOps.ofBits .f32 (Cert.KernelIdeal.lit0 i) : Ideal .f32) = wt (k / 4) (p / 32) * wt (k % 4) (p % 32) := by
  have e : i = ⟨k * 1024 + p, by omega⟩ := Fin.ext hi
  rw [e, ofBits_of_spells _ _ (table_spells ⟨k, hk⟩ ⟨p, hp⟩)]
  unfold wt
  rw [← EReal.coe_mul]
  congr 1
  push_cast
  ring

end Cert.Bilinear

end
-- ==== Proof.KernelValue.lean ====
/- What the kernel's result array holds after the whole run. -/
module

public import proofs.«01_k».proof.Proof.Block
public import proofs.«01_k».proof.Proof.Table

@[expose] public section

set_option maxRecDepth 16384

noncomputable section

namespace Cert.KernelIdeal.Result

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- One element of the result: the feature, plus the sum over the 16 coarse cells of the product of the cell's two
    weights times the cell's embedding entry. -/
def at5 (f : FVec Ideal S2x128x192x32x32 .f32) (e : FVec Ideal S2048x3072 .f32)
    (b : Fin 2) (s : Fin 128) (c : Fin 192) (y x : Fin 32) : EReal :=
  (f (ix5 b s c y x) : EReal) + ∑ k : Fin 16, Bilinear.wt (k.val / 4) y.val * Bilinear.wt (k.val % 4) x.val
    * (e (ix2 ⟨s.val, by omega⟩ ⟨c.val * 16 + k.val, by omega⟩) : EReal)

/-- The kernel's result as an array: `at5` at every index. -/
def value (f : FVec Ideal S2x128x192x32x32 .f32) (e : FVec Ideal S2048x3072 .f32) :
    FVec Ideal S2x128x192x32x32 .f32 := fun j => at5 f e (j 0) (j 1) (j 2) (j 3) (j 4)

/-- Which block each window reads or writes at each grid point: point `t` is batch `t / 8`, channel block `t % 8`. -/
theorem idx : ∀ t : Fin cfg0.N, win0_0.index t = ![0, t.val % 8] ∧ win0_1.index t = ![0, 0]
    ∧ win0_2.index t = ![t.val / 8, t.val % 8, 0, 0, 0] ∧ win0_3.index t = ![t.val / 8, t.val % 8, 0, 0, 0] :=
  (by decide +kernel : ∀ t : Fin grid0.N, _)

/-- The region finds the features with the sequence axis moved last. -/
theorem entry_features (c : Dev nD) : V m c main_v0
    = transpose S2x192x32x32x128 [0, 2, 3, 4, 1] (m ((c : Thread nD τ).loc main_arg0)) transposes_S2x128x192x32x32_S2x192x32x32x128_0_2_3_4_1 := by
  show StableHlo.after hostOps0 (fun b => m (c, b)) (Proc.devRef .tc main_v0) = _
  after_results
  try rfl

/-- The region finds the constant table as printed. -/
theorem entry_table (c : Dev nD) : V m c main_cst
    = (fun i => FloatOps.ofBits .f32 (lit0 (S16x1024.rowMajor i)) : FVec Ideal S16x1024 .f32) := by
  show StableHlo.after hostOps0 (fun b => m (c, b)) (Proc.devRef .tc main_cst) = _
  after_results
  try rfl

/-- The output block's element at grid point `t` is the result's element at the place that the block puts it. -/
theorem point (c : Dev nD) (t : Fin cfg0.N) (u : Fin 24) (y x : Fin 32) (s : Fin 128) (b : Fin 2) (ch : Fin 192)
    (hb : b.val = t.val / 8) (hc : ch.val = t.val % 8 * 24 + u.val) :
    BlockValue.elt (iblk m c 0 t) (iblk m c 1 t) (iblk m c 2 t) u y x s
      = at5 (m ((c : Thread nD τ).loc main_arg0)) (m ((c : Thread nD τ).loc main_arg1)) b s ch y x := by
  have ht : t.val < 16 := lt_of_lt_of_eq t.isLt N_0
  have h2 : (iblk m c 2 t (ix5 0 u y x s) : EReal) = m ((c : Thread nD τ).loc main_arg0) (ix5 b s ch y x) := by
    unfold iblk
    rw [show V m c (Pipeline.arrRef spec0 2) = _ from entry_features m c]
    blk_simp [idx t]
    pointwise
    blk_ext [idx t]
  have h1 (k : Fin 16) : (iblk m c 1 t (ix2 k ⟨y.val * 32 + x.val, by omega⟩) : EReal)
      = Bilinear.wt (k.val / 4) y.val * Bilinear.wt (k.val % 4) x.val := by
    unfold iblk
    rw [show V m c (Pipeline.arrRef spec0 1) = _ from entry_table m c]
    blk_simp [idx t]
    refine (Bilinear.table_at _ k.val (y.val * 32 + x.val) k.isLt (by omega) ?_).trans ?_
    · rw [show ∀ i : S16x1024.Idx, (S16x1024.rowMajor i).val = _ from fun i => Idealize.ShloMosaic.rowMajor_val2 i 1024 rfl]
      blk_simp [idx t]
    · rw [show (y.val * 32 + x.val) / 32 = y.val by omega, show (y.val * 32 + x.val) % 32 = x.val by omega]
  have h0 (k : Fin 16) : (iblk m c 0 t (ix2 s ⟨u.val * 16 + k.val, by omega⟩) : EReal)
      = m ((c : Thread nD τ).loc main_arg1) (ix2 ⟨s.val, by omega⟩ ⟨ch.val * 16 + k.val, by omega⟩) := by
    blk_ext [iblk, V, idx t]
  unfold BlockValue.elt at5
  refine congrArg₂ (· + ·) h2 (Finset.sum_congr rfl fun k _ => ?_)
  exact congrArg₂ (· * ·) (h1 k) (h0 k)

/-- The output window's array after the run: the result with the sequence axis last. -/
theorem final (c : Dev nD) : (dats m 0 c).arrAt 3 (cfgs 0).N = fun j : S2x192x32x32x128.Idx =>
    at5 (m ((c : Thread nD τ).loc main_arg0)) (m ((c : Thread nD τ).loc main_arg1)) (j 0) (j 4) (j 1) (j 2) (j 3) := by
  refine (dats m 0 c).arrAt_eq_of_covers 3 _ (by decide +kernel) fun t hf y => ?_
  blk_simp
  rw [after0_3, BlockValue.out_at]
  have h2 : (win0_3.blk t).view.emb y 2 = y 2 := Fin.ext (by blk_simp [idx t])
  have h3 : (win0_3.blk t).view.emb y 3 = y 3 := Fin.ext (by blk_simp [idx t])
  have h4 : (win0_3.blk t).view.emb y 4 = y 4 := Fin.ext (by blk_simp [idx t])
  rw [h2, h3, h4]
  exact point m c t _ _ _ _ _ _ (by blk_simp [idx t]) (by blk_simp [idx t])

/-- The kernel's result buffer after the run is `value` of the arguments. -/
theorem result (c : Dev nD) : Pipeline.afterTail₀ cfgs (dats m) 0 (V0 m) [hostOps1] c main_v2
    = value (m ((c : Thread nD τ).loc main_arg0)) (m ((c : Thread nD τ).loc main_arg1)) := by
  unfold Pipeline.afterTail₀
  simp only [List.flatten_cons, List.flatten_nil, List.append_nil, hostOps1]
  after_results
  rw [show Pipeline.withArrays spec0 c (V0 m c) (fun w => (dats m 0 c).arrAt w (cfgs 0).N) (Proc.devRef .tc main_v1) = _ from
    Pipeline.withArrays_arr spec0 launch0.win.arr_inj c (V0 m c) _ 3]
  rw [final m c]
  funext j
  unfold value
  pointwise

end Cert.KernelIdeal.Result

end
-- ==== Proof.RefWeights.lean ====
/- The weight matrix that the reference's resize computes, entry by entry. -/
module

public import proofs.«01_k».proof.Proof.Weights
public import proofs.«01_k».proof.Proof.Gen.ReferenceIdeal

@[expose] public section

set_option maxRecDepth 16384

noncomputable section

namespace Cert.ReferenceIdeal.Resize

open Idealize.ShloMosaic Idealize.ShloMosaic.TcCoe Cert.ReferenceIdeal Cert.ReferenceIdeal.Gen

/-- The place of each fine cell's centre on the coarse axis: `(y + 1/2) / 8 - 0 - 1/2`. -/
def place : FVec Ideal S32 .f32 :=
  subf (subf (mulf (addf (sitofp .f32 (iotaInDim S32 32 0)) (broadcastInDim S32 ![] bcast_S_S32 (constant S_ .f32 0x3F000000#32)))
      (broadcastInDim S32 ![] bcast_S_S32 (constant S_ .f32 0x3E000000#32)))
    (broadcastInDim S32 ![] bcast_S_S32 (constant S_ .f32 0x00000000#32)))
    (broadcastInDim S32 ![] bcast_S_S32 (constant S_ .f32 0x3F000000#32))

/-- The tent of coarse cell `i` at fine cell `y`: one less the distance of their places, cut off at zero. -/
def tent : FVec Ideal S4x32 .f32 :=
  maximumf (broadcastInDim S4x32 ![] bcast_S_S4x32 (constant S_ .f32 0x00000000#32))
    (subf (broadcastInDim S4x32 ![] bcast_S_S4x32 (constant S_ .f32 0x3F800000#32))
      (Host.absf (Host.divf
        (Host.absf (subf (broadcastInDim S4x32 ![0, 1] bcast_S1x32_S4x32_0_1 (broadcastInDim S1x32 ![1] bcast_S32_S1x32_1 place))
          (broadcastInDim S4x32 ![0, 1] bcast_S4x1_S4x32_0_1 (broadcastInDim S4x1 ![0] bcast_S4_S4x1_0 (sitofp .f32 (iotaInDim S4 32 0))))))
        (broadcastInDim S4x32 ![] bcast_S_S4x32 (id (maximumf (constant S_ .f32 0x3E000000#32) (constant S_ .f32 0x3F800000#32)))))))

/-- The sum of the four tents at each fine cell. -/
def total : FVec Ideal S1x32 .f32 :=
  broadcastInDim S1x32 ![1] bcast_S32_S1x32_1 (Host.reduceAdd tent (constant S_ .f32 0x00000000#32) reducesTo_S4x32_S32_d0 h_S_)

/-- Whether each fine cell's place lies between half a coarse cell before the first and half a cell after the last. -/
def inside : IVec S32 1 :=
  andi (cmpf .oge place (broadcastInDim S32 ![] bcast_S_S32 (constant S_ .f32 0xBF000000#32)))
    (cmpf .ole place (broadcastInDim S32 ![] bcast_S_S32 (constant S_ .f32 0x40600000#32)))

/-- The weight matrix of one axis: each tent over the total, where the total is not tiny and the place is inside. -/
def weights : FVec Ideal S4x32 .f32 :=
  select (broadcastInDim S4x32 ![0, 1] bcast_S1x32_S4x32_0_1 (broadcastInDim S1x32 ![1] bcast_S32_S1x32_1 inside))
    (select (broadcastInDim S4x32 ![0, 1] bcast_S1x32_S4x32_0_1
        (cmpf .ogt (Host.absf total) (broadcastInDim S1x32 ![] bcast_S_S1x32 (constant S_ .f32 0x38FA0000#32))))
      (Host.divf tent (broadcastInDim S4x32 ![0, 1] bcast_S1x32_S4x32_0_1
        (select (cmpf .une total (broadcastInDim S1x32 ![] bcast_S_S1x32 (constant S_ .f32 0x00000000#32)))
          total (broadcastInDim S1x32 ![] bcast_S_S1x32 (constant S_ .f32 0x3F800000#32)))))
      (broadcastInDim S4x32 ![] bcast_S_S4x32 (constant S_ .f32 0x00000000#32)))
    (broadcastInDim S4x32 ![] bcast_S_S4x32 (constant S_ .f32 0x00000000#32))

/-- The bit pattern of one half. -/
theorem half_val : Ideal.ofBits .f32 (0x3F000000#32) = (((1 / 2 : ℚ) : ℝ) : EReal) :=
  (Bilinear.ofBits_of_spells _ 128 (by decide +kernel)).trans (by norm_num)
/-- The bit pattern of one eighth. -/
theorem eighth_val : Ideal.ofBits .f32 (0x3E000000#32) = (((1 / 8 : ℚ) : ℝ) : EReal) :=
  (Bilinear.ofBits_of_spells _ 32 (by decide +kernel)).trans (by norm_num)
/-- The bit pattern of seven halves. -/
theorem high_val : Ideal.ofBits .f32 (0x40600000#32) = (((7 / 2 : ℚ) : ℝ) : EReal) :=
  (Bilinear.ofBits_of_spells _ 896 (by decide +kernel)).trans (by norm_num)
/-- The bit pattern of minus one half. -/
theorem low_val : Ideal.ofBits .f32 (0xBF000000#32) = (((-1 / 2 : ℚ) : ℝ) : EReal) := by
  show Ideal.ieee 8 23 (0xBF000000#32) = _
  unfold Ideal.ieee
  rw [show ((0xBF000000#32).extractLsb' (8 + 23) 1 == 1#1) = true by decide +kernel,
    show ((0xBF000000#32).extractLsb' 23 8).toNat = 126 by decide +kernel,
    show ((0xBF000000#32).extractLsb' 0 23).toNat = 0 by decide +kernel]
  norm_num
/-- The bound below which a total counts as tiny is less than one half. -/
theorem tiny_lt : Ideal.ofBits .f32 (0x38FA0000#32) < (((1 / 2 : ℚ) : ℝ) : EReal) := by
  show Ideal.ieee 8 23 (0x38FA0000#32) < _
  unfold Ideal.ieee
  rw [show ((0x38FA0000#32).extractLsb' (8 + 23) 1 == 1#1) = false by decide +kernel,
    show ((0x38FA0000#32).extractLsb' 23 8).toNat = 113 by decide +kernel,
    show ((0x38FA0000#32).extractLsb' 0 23).toNat = 7995392 by decide +kernel]
  norm_num

/-- A fine cell's place as a rational number. -/
def placeQ (y : ℕ) : ℚ := (2 * y + 1) / 16 - 1 / 2
/-- A tent as a rational number. -/
def tentQ (i y : ℕ) : ℚ := max 0 (1 - |placeQ y - i|)
/-- The total of the four tents as a rational number. -/
def totalQ (y : ℕ) : ℚ := tentQ 0 y + tentQ 1 y + tentQ 2 y + tentQ 3 y

/-- Every tent over its total is the weight, in sixteenths. -/
theorem tent_ratio : ∀ (i : Fin 4) (y : Fin 32), tentQ i y / totalQ y = (Bilinear.wnum i y : ℚ) / 16 := by
  decide +kernel
/-- No total is below one half. -/
theorem total_ge : ∀ y : Fin 32, (1 / 2 : ℚ) ≤ totalQ y := by decide +kernel
/-- Every place is inside. -/
theorem place_in : ∀ y : Fin 32, (-1 / 2 : ℚ) ≤ placeQ y ∧ placeQ y ≤ 7 / 2 := by decide +kernel

/-- Extended reals that are rational numbers are ordered as those are. -/
theorem ofRat_le (a b : ℚ) : ((a : ℝ) : EReal) ≤ ((b : ℝ) : EReal) ↔ a ≤ b := by
  rw [EReal.coe_le_coe_iff, Rat.cast_le]
/-- The larger of two rational numbers, as an extended real. -/
theorem ofRat_max (a b : ℚ) : max ((a : ℝ) : EReal) ((b : ℝ) : EReal) = (((max a b : ℚ) : ℝ) : EReal) := by
  rw [Rat.cast_max]
  exact (EReal.coe_strictMono.monotone.map_max).symm
/-- The size of a rational number, as an extended real. -/
theorem ofRat_abs (a : ℚ) : (FloatOps.absf (((a : ℝ) : EReal) : Ideal .f32) : Ideal .f32) = (((|a| : ℚ) : ℝ) : EReal) := by
  show max ((a : ℝ) : EReal) (-((a : ℝ) : EReal)) = _
  rw [← EReal.coe_neg, ← Rat.cast_neg, ofRat_max]
  rfl
/-- The quotient of two rational numbers, the second not zero, as an extended real. -/
theorem ofRat_div (a b : ℚ) (hb : b ≠ 0) :
    Ideal.div ((a : ℝ) : EReal) ((b : ℝ) : EReal) = (((a / b : ℚ) : ℝ) : EReal) := by
  unfold Ideal.div
  rw [if_neg (by exact_mod_cast hb), ← EReal.coe_inv, ← EReal.coe_mul, Rat.cast_div, div_eq_mul_inv]
/-- A small whole number read from its 32-bit word, as an extended real. -/
theorem ofNat_val (n : ℕ) (h : n < 32) : (FloatOps.sitofp .f32 (BitVec.ofNat 32 n) : Ideal .f32) = (((n : ℚ) : ℝ) : EReal) := by
  show (((BitVec.ofNat 32 n).toInt : ℝ) : EReal) = _
  rw [show (BitVec.ofNat 32 n).toInt = (n : ℤ) from (by decide +kernel : ∀ k : Fin 32, (BitVec.ofNat 32 k.val).toInt = (k.val : ℤ)) ⟨n, h⟩]
  push_cast
  rfl

/-- The place of fine cell `y` is `placeQ y`. -/
theorem place_at (y : Fin 32) : place (ix1 y) = (((placeQ y.val : ℚ) : ℝ) : EReal) := by
  pointwise [place]
  rw [ofNat_val _ y.isLt, half_val, eighth_val]
  rw [← EReal.coe_add, ← Rat.cast_add, ← EReal.coe_mul, ← Rat.cast_mul, ← EReal.coe_sub, ← Rat.cast_sub]
  congr 2
  unfold placeQ
  ring

/-- The tent of coarse cell `i` at fine cell `y` is `tentQ i y`. -/
theorem tent_at (i : Fin 4) (y : Fin 32) : tent (ix2 i y) = (((tentQ i.val y.val : ℚ) : ℝ) : EReal) := by
  have h1 : (id (maximumf (constant (F := Ideal) S_ FTy.f32 0x3E000000#32) (constant S_ FTy.f32 0x3F800000#32)) ix0 : EReal)
      = (((1 : ℚ) : ℝ) : EReal) := by
    show max (Ideal.ofBits .f32 (0x3E000000#32)) (Ideal.ofBits .f32 (0x3F800000#32)) = _
    rw [eighth_val, Ideal.ofBits_one_f32, show (1 : EReal) = (((1 : ℚ) : ℝ) : EReal) by norm_num, ofRat_max]
    norm_num
  pointwise [tent]
  rw [h1, place_at, ofNat_val _ (by omega)]
  have e0 : (0 : EReal) = (((0 : ℚ) : ℝ) : EReal) := by norm_num
  have e1 : (1 : EReal) = (((1 : ℚ) : ℝ) : EReal) := by norm_num
  rw [← EReal.coe_sub, ← Rat.cast_sub, ofRat_abs, ofRat_div _ _ one_ne_zero, ofRat_abs, div_one, abs_abs, e1, e0,
    ← EReal.coe_sub, ← Rat.cast_sub, ofRat_max]
  rfl

/-- The total at fine cell `y` is `totalQ y`. -/
theorem total_at (i : Fin 1) (y : Fin 32) : total (ix2 i y) = (((totalQ y.val : ℚ) : ℝ) : EReal) := by
  pointwise [total]
  simp only [tent_at]
  rw [Fin.sum_univ_four]
  unfold totalQ
  push_cast
  rfl

/-- The reference's weight matrix holds the interpolation weights. -/
theorem weights_at (i : Fin 4) (y : Fin 32) : weights (ix2 i y) = Bilinear.wt i.val y.val := by
  pointwise [weights, inside]
  obtain ⟨hl, hh⟩ := place_in y
  have ht := total_ge y
  rw [place_at, total_at, tent_at, ofRat_abs, low_val, high_val]
  rw [decide_eq_true ((ofRat_le _ _).mpr hl), decide_eq_true ((ofRat_le _ _).mpr hh)]
  have h0 : totalQ y ≠ 0 := by intro h; rw [h] at ht; norm_num at ht
  have h0' : (((totalQ y.val : ℚ) : ℝ) : EReal) ≠ 0 := by exact_mod_cast h0
  rw [if_pos (lt_of_lt_of_le tiny_lt ((ofRat_le _ _).mpr (ht.trans (le_abs_self _)))), if_pos h0', ofRat_div _ _ h0, tent_ratio]
  show ((((Bilinear.wnum i y : ℚ) / 16 : ℚ) : ℝ) : EReal) = _
  unfold Bilinear.wt
  push_cast
  rfl

end Cert.ReferenceIdeal.Resize

end
-- ==== Proof.RefValue.lean ====
/- What the reference's result holds, element by element. -/
module

public import proofs.«01_k».proof.Proof.RefWeights
public import proofs.«01_k».proof.Proof.Gen.ReferenceIdeal.Run

@[expose] public section

set_option maxRecDepth 16384

noncomputable section

namespace Cert.ReferenceIdeal.Resize

open Idealize.ShloMosaic Idealize.ShloMosaic.TcCoe Cert.ReferenceIdeal Cert.ReferenceIdeal.Gen

/-- The row numbers that the lookup reads: 0 to 127, a negative one counted from the end. -/
def rows : IVec S128x1 32 :=
  broadcastInDim S128x1 ![0] bcast_S128_S128x1_0
    (select (cmpi .slt (iotaInDim S128 32 0) (broadcastInDim S128 ![] bcast_S_S128 (constantI S_ 32 0#32)))
      (addi (iotaInDim S128 32 0) (broadcastInDim S128 ![] bcast_S_S128 (constantI S_ 32 2048#32))) (iotaInDim S128 32 0))

/-- Whether each row number lies in the table. -/
def known : IVec S128 1 :=
  Host.reduce IntOp.andi (andi (cmpi .sge rows (broadcastInDim S128x1 ![] bcast_S_S128x1 (constantI S_ 32 0#32)))
    (cmpi .sle rows (broadcastInDim S128x1 ![0, 1] bcast_S1x1_S128x1_0_1 (broadcastInDim S1x1 ![1] bcast_S1_S1x1_1 (constantI S1 32 2047#32)))))
    (constantI S_ 1 1#1) reducesTo_S128x1_S128_d1 h_S_

/-- The first 128 rows of the table, looked up. -/
def looked (e : FVec Ideal S2048x3072 .f32) : FVec Ideal S128x3072 .f32 :=
  select (broadcastInDim S128x3072 ![0] bcast_S128_S128x3072_0 known)
    (Host.gather gather_S2048x3072_S128x1_S128x3072_1_0_n_n_0_1_13072 e rows)
    (broadcastInDim S128x3072 ![] bcast_S_S128x3072 (constant S_ .f32 0x7FC00000#32))

/-- The reference's result: the features plus the looked-up rows resized along both axes. -/
def composed (f : FVec Ideal S2x128x192x32x32 .f32) (e : FVec Ideal S2048x3072 .f32) : FVec Ideal S2x128x192x32x32 .f32 :=
  addf f (broadcastInDim S2x128x192x32x32 ![0, 1, 2, 3, 4] bcast_S1x128x192x32x32_S2x128x192x32x32_0_1_2_3_4
    (broadcastInDim S1x128x192x32x32 ![1, 2, 3, 4] bcast_S128x192x32x32_S1x128x192x32x32_1_2_3_4
      (transpose S128x192x32x32 [1, 2, 0, 3]
        (Host.dotGeneral dot_S32x128x192x4_S4x32_S32x128x192x32_3_0_012_1_n_n (some .fp32)
          (Host.dotGeneral dot_S4x32_S128x192x4x4_S32x128x192x4_0_2_1_013_n_n (some .fp32) weights
            (shapeCast S128x192x4x4 (looked e) shapeCasts_S128x3072_S128x192x4x4))
          weights) transposes_S32x128x192x32_S128x192x32x32_1_2_0_3)))

/-- The reference's run ends with `composed` of its arguments. -/
theorem res_eq (m : (ℓ : Loc nD τ sig) → Buf (Elt Ideal) ℓ) (c : Dev nD) :
    Value.res_out0 m c = composed (m ((c : Thread nD τ).loc main_arg0)) (m ((c : Thread nD τ).loc main_arg1)) := rfl

/-- The lookup's row numbers are 0 to 127. -/
theorem rows_at (s : Fin 128) (z : Fin 1) : rows (ix2 s z) = BitVec.ofNat 32 s.val := by
  pointwise [rows]
  exact (by decide +kernel : ∀ s : Fin 128, Scalar.select (IntOp.cmpi CmpIPredicate.slt (BitVec.ofNat 32 s.val) 0#32)
    (IntOp.addi (BitVec.ofNat 32 s.val) 2048#32) (BitVec.ofNat 32 s.val) = BitVec.ofNat 32 s.val) s

/-- Every row number lies in the table. -/
theorem known_at (s : Fin 128) : known (ix1 s) = 1#1 := by
  pointwise [known]
  simp only [rows_at]
  have h : IntOp.andi (IntOp.cmpi CmpIPredicate.sge (BitVec.ofNat 32 s.val) 0#32)
      (IntOp.cmpi CmpIPredicate.sle (BitVec.ofNat 32 s.val) 2047#32) = 1#1 :=
    (by decide +kernel : ∀ s : Fin 128, IntOp.andi (IntOp.cmpi CmpIPredicate.sge (BitVec.ofNat 32 s.val) 0#32)
      (IntOp.cmpi CmpIPredicate.sle (BitVec.ofNat 32 s.val) 2047#32) = 1#1) s
  rw [h]
  decide +kernel

/-- The gather's element at row `s`, column `k` is the table's at the row that the row number names, same column. -/
theorem gather_at (e : FVec Ideal S2048x3072 .f32) (s : Fin 128) (k : Fin 3072) :
    Host.gather gather_S2048x3072_S128x1_S128x3072_1_0_n_n_0_1_13072 e rows (ix2 s k) = e (ix2 ⟨s.val, by omega⟩ k) := by
  unfold Host.gather
  congr 1
  funext a
  refine Fin.ext ?_
  show gather_S2048x3072_S128x1_S128x3072_1_0_n_n_0_1_13072.start (ix2 s k) rows a
    + gather_S2048x3072_S128x1_S128x3072_1_0_n_n_0_1_13072.batchCoord (ix2 s k) a
    + gather_S2048x3072_S128x1_S128x3072_1_0_n_n_0_1_13072.offCoord (ix2 s k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S2048x3072_S128x1_S128x3072_1_0_n_n_0_1_13072.startIndexMap from List.mem_singleton.mpr rfl)]
    have hr : ∀ i : S128x1.Idx, (i 0).val = s.val → rows i = BitVec.ofNat 32 s.val := by
      intro i hi
      have : i = ix2 s (i 1) := by
        funext b
        match b with
        | ⟨0, _⟩ => exact Fin.ext hi
        | ⟨1, _⟩ => rfl
      rw [this]
      exact rows_at s _
    rw [hr _ rfl]
    exact (by decide +kernel : ∀ s : Fin 128, min (BitVec.ofNat 32 s.val).toInt.toNat (2048 - 1) + 0 + 0 = s.val) s
  · unfold GatherDims.start
    rw [dif_neg (by decide)]
    unfold GatherDims.offCoord
    rw [dif_pos (by decide)]
    show 0 + 0 + k.val = k.val
    omega

/-- The lookup's row `s` is the table's row `s`. -/
theorem looked_at (e : FVec Ideal S2048x3072 .f32) (s : Fin 128) (k : Fin 3072) :
    looked e (ix2 s k) = e (ix2 ⟨s.val, by omega⟩ k) := by
  pointwise [looked]
  rw [known_at, gather_at]
  rfl

/-- One element of the reference's result: the feature, plus the resized rows as a double sum. -/
theorem composed_at (f : FVec Ideal S2x128x192x32x32 .f32) (e : FVec Ideal S2048x3072 .f32)
    (b : Fin 2) (s : Fin 128) (c : Fin 192) (y x : Fin 32) :
    composed f e (ix5 b s c y x) = (f (ix5 b s c y x) : EReal) + ∑ j : Fin 4, (∑ i : Fin 4, Bilinear.wt i.val y.val
      * (e (ix2 ⟨s.val, by omega⟩ ⟨c.val * 16 + i.val * 4 + j.val, by omega⟩) : EReal)) * Bilinear.wt j.val x.val := by
  pointwise [composed]
  simp only [weights_at, looked_at]

end Cert.ReferenceIdeal.Resize

end
-- ==== Proof.Sums.lean ====
/- The sum over 16 coarse cells with product weights is the row sums' weighted sum. -/
module

public import proofs.«01_k».proof.Proof.Weights

@[expose] public section

noncomputable section

namespace Cert.Bilinear

/-- A weight multiplies into a sum of four extended reals term by term: it is neither negative nor infinite. -/
theorem sum_mul_wt (a : Fin 4 → EReal) (i y : ℕ) : (∑ k, a k) * wt i y = ∑ k, a k * wt i y := by
  have h (p q : EReal) : (p + q) * wt i y = p * wt i y + q * wt i y :=
    EReal.right_distrib_of_nonneg_of_ne_top (wt_nonneg i y) (wt_ne_top i y) p q
  simp only [Fin.sum_univ_four, h]

/-- The sum over the 16 cells, cell `4i + j` weighted by `i`'s weight on one axis times `j`'s on the other, is the sum
    over `j` of the sum over `i`, each weighted on its own axis. -/
theorem sum_cells (e : ℕ → EReal) (y x : ℕ) :
    (∑ k : Fin 16, wt (k.val / 4) y * wt (k.val % 4) x * e k.val)
      = ∑ j : Fin 4, (∑ i : Fin 4, wt i.val y * e (i.val * 4 + j.val)) * wt j.val x := by
  simp only [sum_mul_wt]
  rw [Finset.sum_comm, ← Finset.sum_product']
  refine Fintype.sum_equiv (finProdFinEquiv (m := 4) (n := 4)).symm _ _ fun k => ?_
  show _ = wt (k.val / 4) y * e (k.val / 4 * 4 + k.val % 4) * wt (k.val % 4) x
  rw [show k.val / 4 * 4 + k.val % 4 = k.val by omega, mul_right_comm]

end Cert.Bilinear

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.RefValue
public import proofs.«01_k».proof.Proof.Sums
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The 16 cells of one channel: one sum with product weights is the sum over `j` of the weighted sum over `i`. -/
theorem cells_eq (e : FVec Ideal Cert.KernelIdeal.S2048x3072 .f32) (s : Fin 128) (c : Fin 192) (y x : Fin 32) :
    (∑ k : Fin 16, Cert.Bilinear.wt (k.val / 4) y.val * Cert.Bilinear.wt (k.val % 4) x.val
        * (e (ix2 ⟨s.val, by omega⟩ ⟨c.val * 16 + k.val, by omega⟩) : EReal))
      = ∑ j : Fin 4, (∑ i : Fin 4, Cert.Bilinear.wt i.val y.val
        * (e (ix2 ⟨s.val, by omega⟩ ⟨c.val * 16 + i.val * 4 + j.val, by omega⟩) : EReal)) * Cert.Bilinear.wt j.val x.val := by
  let g : ℕ → EReal := fun k =>
    if h : c.val * 16 + k < 3072 then (e (ix2 ⟨s.val, by omega⟩ ⟨c.val * 16 + k, h⟩) : EReal) else 0
  have hg (k : ℕ) (h : c.val * 16 + k < 3072) :
      g k = (e (ix2 ⟨s.val, by omega⟩ ⟨c.val * 16 + k, h⟩) : EReal) := dif_pos h
  have key := Cert.Bilinear.sum_cells g y.val x.val
  rw [Finset.sum_congr rfl fun (k : Fin 16) _ => by rw [hg k.val (by omega)]] at key
  refine key.trans (Finset.sum_congr rfl fun j _ => congrArg (· * _) (Finset.sum_congr rfl fun i _ => ?_))
  rw [hg (i.val * 4 + j.val) (by omega)]
  simp only [Nat.add_assoc]

/-- The kernel's closed form and the reference's are one array, on every input: the reference's two weighted sums of
    four are the kernel's one sum of 16 with product weights. -/
theorem values_eq (f : FVec Ideal Cert.KernelIdeal.S2x128x192x32x32 .f32) (e : FVec Ideal Cert.KernelIdeal.S2048x3072 .f32) :
    Cert.ReferenceIdeal.Resize.composed f e = Cert.KernelIdeal.Result.value f e := by
  funext j
  have hj : j = ix5 (j 0) (j 1) (j 2) (j 3) (j 4) := by
    funext a
    fin_cases a <;> rfl
  rw [hj]
  refine (Cert.ReferenceIdeal.Resize.composed_at f e (j 0) (j 1) (j 2) (j 3) (j 4)).trans ?_
  show _ = Cert.KernelIdeal.Result.at5 f e (j 0) (j 1) (j 2) (j 3) (j 4)
  exact congrArg (f (ix5 (j 0) (j 1) (j 2) (j 3) (j 4)) + ·) (cells_eq e (j 1) (j 2) (j 3) (j 4)).symm

/-- The reference's run leaves its arguments and brings every counter back to zero. -/
theorem frame_reference : Cert.quiescent_ReferenceIdeal := by
  unfold quiescent_ReferenceIdeal
  intro m g hpre
  run_from Cert.ReferenceIdeal.Value.run m g
  · exact fun _ => ⟨trivial, trivial⟩
  · exact sem_eq_zero_of_no_sems (by decide) _

/-- The idealized kernel and the reference end with one result. -/
theorem results_agree : Cert.algebraic_KernelIdeal_ReferenceIdeal := by
  unfold algebraic_KernelIdeal_ReferenceIdeal
  pair_intro
  · run_from Cert.KernelIdeal.Gen.run_main m g
    exact Cert.KernelIdeal.Gen.W_main_arg0 m _ c
  · run_from Cert.ReferenceIdeal.Value.run m' g'
    refine (Cert.ReferenceIdeal.Resize.res_eq m' c).trans ?_
    rw [(hagree c).1, (hagree c).2]
    exact (values_eq _ _).trans (Cert.KernelIdeal.Result.result m c).symm

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    results_agree⟩

end Cert.Proof

end
